-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096x1024 : Shape := ⟨3, ![4, 4096, 1024]⟩
abbrev S16384x1024 : Shape := ⟨2, ![16384, 1024]⟩
abbrev S1024x1024 : Shape := ⟨2, ![1024, 1024]⟩
abbrev S1 : Shape := ⟨1, ![1]⟩
abbrev S8x1024 : Shape := ⟨2, ![8, 1024]⟩
abbrev S7x1024 : Shape := ⟨2, ![7, 1024]⟩
abbrev S1x1024 : Shape := ⟨2, ![1, 1024]⟩
abbrev S6x1024 : Shape := ⟨2, ![6, 1024]⟩
abbrev S2x1024 : Shape := ⟨2, ![2, 1024]⟩
abbrev S4x1024 : Shape := ⟨2, ![4, 1024]⟩

abbrev nBuf : Space → Nat
  | .hbm => 4
  | .vmem => 4
  | .smem => 1
  | _ => 0

abbrev bufTy : (tb : Table) → Fin (tcTables nBuf tb) → BufTy
  | .hbm, ⟨0, _⟩ => ⟨S4x4096x1024, .f32⟩
  | .hbm, ⟨1, _⟩ => ⟨S16384x1024, .f32⟩
  | .hbm, ⟨2, _⟩ => ⟨S16384x1024, .f32⟩
  | .hbm, ⟨3, _⟩ => ⟨S4x4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .smem, ⟨0, _⟩ => ⟨S1, .i32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S4x4096x1024 : Shape := ⟨3, ![4, 4096, 1024]⟩

abbrev nBuf : Space → Nat
  | .hbm => 2
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.Model.lean ====
/-
  The block function: what one grid step of the kernel makes of its block of 1024 rows, written as a function of the
  block alone. The block is transposed, so a row becomes a column, and cut into 128 slabs of eight entries of every
  column; the slabs go through the bitonic sort's stages, are regrouped so that slab `c` holds the entries
  `8 c … 8 c + 7` of the result, stacked and transposed back. The functions here are over the same vector operations as the
  kernel's own text, so that the kernel is this function by computation (Body.lean).
-/
module

public import Idealize.ShloMosaic.PureOps

@[expose] public section

noncomputable section

namespace SortK

open Idealize.ShloMosaic

variable {F : FTy → Type} [FloatOps F]

abbrev S8 : Shape := ⟨2, ![8, 1024]⟩
abbrev S1 : Shape := ⟨2, ![1, 1024]⟩
abbrev S2 : Shape := ⟨2, ![2, 1024]⟩
abbrev S4 : Shape := ⟨2, ![4, 1024]⟩
abbrev S6 : Shape := ⟨2, ![6, 1024]⟩
abbrev S7 : Shape := ⟨2, ![7, 1024]⟩
abbrev SB : Shape := ⟨2, ![1024, 1024]⟩

/-- A slab: eight entries of each of the block's 1024 rows. -/
abbrev Slab (F : FTy → Type) := FVec F S8 .f32
/-- The slabs by their number (only 0 … 127 are used). -/
abbrev Slabs (F : FTy → Type) := Nat → Slab F

/-- `x` where the number is zero, `y` otherwise. -/
abbrev pick {α : Type} (b : Nat) (x y : α) : α := Nat.rec (motive := fun _ => α) x (fun _ _ => y) b
/-- The `n`-th entry, the number worked out before the entry is named. -/
abbrev nth {α : Type} (S : Nat → α) (n : Nat) : α := Nat.rec (motive := fun _ => α) (S 0) (fun m _ => S (Nat.succ m)) n

/-! ## One stage at a time -/

/-- The stage exchanging slabs `j` apart (`j` a power of two), ascending where bit `k` of the slab's number is clear. -/
abbrev pairs (j k : Nat) (S : Slabs F) : Slabs F := fun g =>
  pick (g &&& j)
    (pick (g &&& k) (minimumf (S g) (nth S (g ^^^ j))) (maximumf (S g) (nth S (g ^^^ j))))
    (pick (g &&& k) (maximumf (nth S (g ^^^ j)) (S g)) (minimumf (nth S (g ^^^ j)) (S g)))

theorem iota8 : S8.Iotas .tc 32 [0] := by decide
theorem slice7_1 : S8.Slices ![1, 0] S7 := by decide
theorem slice1_0 : S8.Slices ![0, 0] S1 := by decide
theorem slice1_7 : S8.Slices ![7, 0] S1 := by decide
theorem slice7_0 : S8.Slices ![0, 0] S7 := by decide
theorem slice6_2 : S8.Slices ![2, 0] S6 := by decide
theorem slice2_0 : S8.Slices ![0, 0] S2 := by decide
theorem slice2_6 : S8.Slices ![6, 0] S2 := by decide
theorem slice6_0 : S8.Slices ![0, 0] S6 := by decide
theorem slice4_4 : S8.Slices ![4, 0] S4 := by decide
theorem slice4_0 : S8.Slices ![0, 0] S4 := by decide
theorem cat71 : Shape.Concatenates [S7, S1] S8 0 := by decide
theorem cat17 : Shape.Concatenates [S1, S7] S8 0 := by decide
theorem cat62 : Shape.Concatenates [S6, S2] S8 0 := by decide
theorem cat26 : Shape.Concatenates [S2, S6] S8 0 := by decide
theorem cat44 : Shape.Concatenates [S4, S4] S8 0 := by decide
theorem castB : SB.ShapeCasts SB := by decide
theorem transB : SB.Transposes [1, 0] SB := by decide

/-- Where bit `d` of the place in the slab is clear. -/
abbrev clear (d : BitVec 32) : IVec S8 1 :=
  cmpi .eq (andi (iota .tc S8 32 [0] iota8) (broadcast S8 d)) (broadcast S8 0#32)
/-- Where bit `d` of the place in the slab is set. -/
abbrev isSet (d : BitVec 32) : IVec S8 1 :=
  cmpi .ne (andi (iota .tc S8 32 [0] iota8) (broadcast S8 d)) (broadcast S8 0#32)

/-! A slab's places turned up (`up`: place `q` gets what place `q + d` held) and down, round the end. -/

/-- Places rolled up by one. -/
abbrev up1 (c : Slab F) : Slab F :=
  concatenate S8 0 [⟨S7, extractStridedSlice S7 ![1, 0] c slice7_1⟩, ⟨S1, extractStridedSlice S1 ![0, 0] c slice1_0⟩] cat71
/-- Places rolled down by one. -/
abbrev dn1 (c : Slab F) : Slab F :=
  concatenate S8 0 [⟨S1, extractStridedSlice S1 ![7, 0] c slice1_7⟩, ⟨S7, extractStridedSlice S7 ![0, 0] c slice7_0⟩] cat17
/-- Places rolled up by two. -/
abbrev up2 (c : Slab F) : Slab F :=
  concatenate S8 0 [⟨S6, extractStridedSlice S6 ![2, 0] c slice6_2⟩, ⟨S2, extractStridedSlice S2 ![0, 0] c slice2_0⟩] cat62
/-- Places rolled down by two. -/
abbrev dn2 (c : Slab F) : Slab F :=
  concatenate S8 0 [⟨S2, extractStridedSlice S2 ![6, 0] c slice2_6⟩, ⟨S6, extractStridedSlice S6 ![0, 0] c slice6_0⟩] cat26
/-- Places rolled by four. -/
abbrev half (c : Slab F) : Slab F :=
  concatenate S8 0 [⟨S4, extractStridedSlice S4 ![4, 0] c slice4_4⟩, ⟨S4, extractStridedSlice S4 ![0, 0] c slice4_0⟩] cat44

/-- The partner inside the slab at distance 1, 2 and 4. -/
abbrev with1 (c : Slab F) : Slab F := select (clear 1#32) (up1 c) (dn1 c)
/-- Each place with its neighbour in bit 2. -/
abbrev with2 (c : Slab F) : Slab F := select (clear 2#32) (up2 c) (dn2 c)

/-- The places that keep the smaller of a pair: where the bits `a` and `d` of the place agree. -/
abbrev agree (a d : BitVec 32) : IVec S8 1 := xori (xori (clear a) (clear d)) (constantI S8 1 1#1)

/-- The stage inside every slab with partner `w`, the smaller kept where `keep` is one. -/
abbrev inside (w : Slab F → Slab F) (keep : IVec S8 1) (S : Slabs F) : Slabs F := fun g =>
  select keep (minimumf (S g) (w (S g))) (maximumf (S g) (w (S g)))

/-- The slabs in reverse order at the places where `up` is not one. -/
abbrev turn (up : IVec S8 1) (S : Slabs F) : Slabs F := fun g => select up (S g) (nth S (127 - g))

/-- The entries at slab bit and place bit `d` exchanged (`dn`, `up` turning by `d`). -/
abbrev regroup (d : Nat) (b : BitVec 32) (dn up : Slab F → Slab F) (S : Slabs F) : Slabs F := fun g =>
  pick (g &&& d) (select (isSet b) (dn (nth S (g ^^^ d))) (S g)) (select (isSet b) (S g) (up (nth S (g ^^^ d))))

/-! ## All of them -/

/-- The stages, the last one first: three exchanges of a slab bit with a place bit, and before them the bitonic sort, level ten down
    to level one. -/
abbrev stages : List (Slabs F → Slabs F) :=
  [regroup 4 4#32 half half, regroup 2 2#32 dn2 up2, regroup 1 1#32 dn1 up1,
   pairs 1 1024, pairs 2 1024, pairs 4 1024, pairs 8 1024, pairs 16 1024, pairs 32 1024, pairs 64 1024,
   inside with1 (clear 1#32), inside with2 (clear 2#32), inside half (clear 4#32),
   turn (clear 4#32), pairs 1 1024, pairs 2 1024, pairs 4 1024, pairs 8 1024, pairs 16 1024, pairs 32 1024, pairs 64 1024,
   inside with1 (agree 4#32 1#32), inside with2 (agree 4#32 2#32),
   turn (clear 2#32), pairs 1 1024, pairs 2 1024, pairs 4 1024, pairs 8 1024, pairs 16 1024, pairs 32 1024, pairs 64 1024,
   inside with1 (agree 2#32 1#32),
   turn (clear 1#32), pairs 1 1024, pairs 2 1024, pairs 4 1024, pairs 8 1024, pairs 16 1024, pairs 32 1024, pairs 64 1024,
   pairs 1 64, pairs 2 64, pairs 4 64, pairs 8 64, pairs 16 64, pairs 32 64,
   pairs 1 32, pairs 2 32, pairs 4 32, pairs 8 32, pairs 16 32,
   pairs 1 16, pairs 2 16, pairs 4 16, pairs 8 16,
   pairs 1 8, pairs 2 8, pairs 4 8,
   pairs 1 4, pairs 2 4,
   pairs 1 2]

/-- Stages run from the last of the list to its first. -/
abbrev run (fs : List (Slabs F → Slabs F)) (S : Slabs F) : Slabs F :=
  List.rec (motive := fun _ => Slabs F) S (fun f _ ih => f ih) fs

/-- A slab is a slice of the block. -/
theorem sliceB (g : Nat) : SB.Slices ![8 * (g % 128), 0] S8 := by
  refine ⟨rfl, fun a => ?_⟩
  have := Nat.mod_lt g (show 0 < 128 by decide)
  fin_cases a
  · show 8 * (g % 128) + 8 ≤ 1024
    omega
  · show 0 + 1024 ≤ 1024
    omega

/-- The slabs of the transposed block. -/
abbrev slabs (t : FVec F SB .f32) : Slabs F := fun g => extractStridedSlice S8 ![8 * (g % 128), 0] t (sliceB g)

/-- The slabs in the order they are stacked in. -/
abbrev pieces (S : Slabs F) : List ((s : Shape) × (s.Idx → F .f32)) :=
  (List.range 128).map fun k => ⟨S8, nth S (8 * (k % 16) + k / 16)⟩

/-- The stacked pieces are slabs. -/
theorem pieces_shapes (S : Slabs F) : (pieces S).map (·.1) = List.replicate 128 S8 := by
  simp only [pieces, List.map_map]
  rfl

/-- The pieces stack to a block. -/
theorem catB (S : Slabs F) : Shape.Concatenates ((pieces S).map (·.1)) SB 0 := by
  rw [pieces_shapes]
  decide

/-- What a grid step makes of its block. -/
def blockSort (x : FVec F SB .f32) : FVec F SB .f32 :=
  transpose SB [1, 0]
    (concatenate SB 0 (pieces (run stages (slabs (transpose SB [1, 0] (shapeCast SB x castB) transB)))) (catB _)) transB

end SortK

end

end
-- ==== Proof.BodyKernel.lean ====
/-
  The kernel's body is: read the block, (read the output block, unused), write `blockSort` of the block.
-/
module

public import proofs.«01_k».proof.Kernel
public import proofs.«01_k».proof.Proof.Model
public import Idealize.ShloMosaic.Lib.Tactic

@[expose] public section

noncomputable section

open Idealize.ShloMosaic Idealize.SL.Sem Idealize.ShloMosaic.Tactic

variable {F : FTy → Type} [FloatOps F]

namespace Cert.Kernel

variable [Facts]

/-- The body in three memory operations. -/
def shortBody (arg1 : Memref sig .tc .vmem S1024x1024 .f32) (arg2 : Memref sig .tc .vmem S1024x1024 .f32) :
    Prog (TpuEff nD τ sig (Elt F) Λ₀ .tc) PUnit := do
  let x : Vec F S1024x1024 .f32 ← Prog.lift (.load arg1 (Rect.unit (s := S1024x1024) ![0, 0] S1024x1024.size Facts₀.inb_S1024x1024_S1024x1024_0_0).toLoadRect (View.loadsAt_vmem Facts₀.h_S1024x1024))
  let _ : Vec F S1024x1024 .f32 ← Prog.lift (.load arg2 (Rect.unit (s := S1024x1024) ![0, 0] S1024x1024.size Facts₀.inb_S1024x1024_S1024x1024_0_0).toLoadRect (View.loadsAt_vmem Facts₀.h_S1024x1024))
  Prog.lift (.store arg2 (Rect.unit (s := S1024x1024) ![0, 0] S1024x1024.size Facts₀.inb_S1024x1024_S1024x1024_0_0) (SortK.blockSort x) Finset.univ (View.stores_vmem_bits_univ Facts₀.h_S1024x1024 rfl) (.inl rfl))

/-- The printed body is load, `blockSort`, store. -/
theorem body_eq (i : grid0.Coords) (arg1 : Memref sig .tc .vmem S1024x1024 .f32) (harg1 : arg1.IsWhole) (arg2 : Memref sig .tc .vmem S1024x1024 .f32) (harg2 : arg2.IsWhole) (arg3 : Memref sig .tc .smem S1 .i32) (harg3 : arg3.IsWhole) :
    cc0__bitonic_body (F := F) i arg1 harg1 arg2 harg2 arg3 harg3 = shortBody arg1 arg2 := by
  sl_kernel_rfl

end Cert.Kernel

end

end
-- ==== Proof.Whole.lean ====
/-
  A store of a whole block and a load of one, at zero offsets however the zeros are written.
-/
module

public import Idealize.ShloMosaic.Lib.Pipeline.Value

@[expose] public section

namespace SortK

open Idealize.ShloMosaic

variable {sig : RefSig} {κ : Kind} {sp : Space} {S : Shape} {e : EltTy} {Val : EltTy → Type}

/-- The offsets `![0, 0]` are zero on both axes. -/
theorem zero_offsets : (![0, 0] : Fin 2 → Nat) = fun _ => 0 := by
  funext a
  fin_cases a <;> rfl

/-- After a store of the whole block the buffer reads as what was stored. -/
theorem read_store_whole (v : View sig κ sp S e) (f : v.ty.Contents Val) {off : Fin S.rank → Nat} (h : off = fun _ => 0)
    (inb : ∀ a, off a + S.size a ≤ S.size a) (w : S.Idx → Val e) :
    v.read Val (v.writes Val f [⟨Rect.unit off S.size inb, w⟩]) = w := by
  subst h
  exact View.read_writes_whole v f w

/-- A load of the whole block reads the buffer. -/
theorem load_whole (v : View sig κ sp S e) (f : v.ty.Contents Val) {off : Fin S.rank → Nat} (h : off = fun _ => 0)
    (inb : ∀ a, off a + S.size a ≤ S.size a) :
    v.readAt Val (Rect.unit off S.size inb).toLoadRect f = v.read Val f := by
  rw [View.readAt_eq_ld, View.ld_unit_zero h]

end SortK

end
-- ==== Proof.BodyKernelIdeal.lean ====
/-
  The kernel's body is: read the block, (read the output block, unused), write `blockSort` of the block.
-/
module

public import proofs.«01_k».proof.KernelIdeal
public import proofs.«01_k».proof.Proof.Model
public import Idealize.ShloMosaic.Lib.Tactic

@[expose] public section

noncomputable section

open Idealize.ShloMosaic Idealize.SL.Sem Idealize.ShloMosaic.Tactic

variable {F : FTy → Type} [FloatOps F]

namespace Cert.KernelIdeal

variable [Facts]

/-- The body in three memory operations. -/
def shortBody (arg1 : Memref sig .tc .vmem S1024x1024 .f32) (arg2 : Memref sig .tc .vmem S1024x1024 .f32) :
    Prog (TpuEff nD τ sig (Elt F) Λ₀ .tc) PUnit := do
  let x : Vec F S1024x1024 .f32 ← Prog.lift (.load arg1 (Rect.unit (s := S1024x1024) ![0, 0] S1024x1024.size Facts₀.inb_S1024x1024_S1024x1024_0_0).toLoadRect (View.loadsAt_vmem Facts₀.h_S1024x1024))
  let _ : Vec F S1024x1024 .f32 ← Prog.lift (.load arg2 (Rect.unit (s := S1024x1024) ![0, 0] S1024x1024.size Facts₀.inb_S1024x1024_S1024x1024_0_0).toLoadRect (View.loadsAt_vmem Facts₀.h_S1024x1024))
  Prog.lift (.store arg2 (Rect.unit (s := S1024x1024) ![0, 0] S1024x1024.size Facts₀.inb_S1024x1024_S1024x1024_0_0) (SortK.blockSort x) Finset.univ (View.stores_vmem_bits_univ Facts₀.h_S1024x1024 rfl) (.inl rfl))

/-- The printed body is load, `blockSort`, store. -/
theorem body_eq (i : grid0.Coords) (arg1 : Memref sig .tc .vmem S1024x1024 .f32) (harg1 : arg1.IsWhole) (arg2 : Memref sig .tc .vmem S1024x1024 .f32) (harg2 : arg2.IsWhole) (arg3 : Memref sig .tc .smem S1 .i32) (harg3 : arg3.IsWhole) :
    cc0__bitonic_body (F := F) i arg1 harg1 arg2 harg2 arg3 harg3 = shortBody arg1 arg2 := by
  sl_kernel_rfl

end Cert.KernelIdeal

end

end
-- ==== Proof.RunKernelIdeal.lean ====
/-
  The run of the kernel's program: the body's triple over its three memory operations, the pipeline's proof data (after
  the body at a grid point the output's staging buffer holds `blockSort` of the input's block), the body obligation, the
  run of the whole program and the frame.
-/
module

public import proofs.«01_k».proof.Proof.BodyKernelIdeal
public import proofs.«01_k».proof.Proof.Whole
public import proofs.«01_k».proof.Proof.Gen.KernelIdeal.Frame
public import Idealize.ShloMosaic.Lib.Claim

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body reads its input block and leaves the block's `blockSort` in the output's buffer. -/
theorem body_triple (c : Dev nD) (i : grid0.Coords) (arg1 : Memref sig .tc .vmem S1024x1024 .f32) (harg1 : arg1.IsWhole)
    (arg2 : Memref sig .tc .vmem S1024x1024 .f32) (harg2 : arg2.IsWhole) (arg3 : Memref sig .tc .smem S1 .i32) (harg3 : arg3.IsWhole)
    (x0 : Vec F S1024x1024 .f32) (E : Set ℕ) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (SortK.blockSort x0)) -∗ K ⟨⟩))
      ⊢ wp frame (wpE (defs₀ (F := F)) Variants.none c none) E (cc0__bitonic_body i arg1 harg1 arg2 harg2 arg3 harg3) K := by
  rw [body_eq]
  unfold shortBody
  unfold owns
  iintro ⟨⟨%f0, %hf0, H0⟩, ⟨%d1, %f1, -, H1⟩, Hk⟩
  obtain rfl := harg1.eq_unread hf0
  sl_exec
  sl_step
  iapply Hk
  isplitl [H0]
  · iexists _; isplitr; · ipureintro; exact harg1.read_unread _
    iexact H0
  iexists _; isplitr; swap; · iexact H1
  ipureintro
  rw [SortK.load_whole _ _ SortK.zero_offsets, hf0]
  exact SortK.read_store_whole _ _ SortK.zero_offsets _ _

/-! ## The pipeline's proof data -/

/-- The input's staging buffer at a point. -/
abbrev ms0_0 (t : Fin cfg0.N) : Memref sig .tc .vmem S1024x1024 .f32 := win0_0.stage (cfg0.slots t 0)
/-- The output's staging buffer at a point. -/
abbrev ms0_1 (t : Fin cfg0.N) : Memref sig .tc .vmem S1024x1024 .f32 := win0_1.stage (cfg0.slots t 1)

/-- What the output's staging buffer holds after the body at point `t`. -/
def outAt (c : Dev nD) (t : Fin cfg0.N) : Vec F S1024x1024 .f32 := SortK.blockSort (iblk m c 0 t)

/-- The proof data on core `c`: the arrays as the region finds them; after the body the input's buffer at its block and
    the output's at `outAt`; the scratch word and the generator at anything; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outAt m c t
  Φ _ := Pipeline.ΦA spec0 c
  q _ := fullShare
  owed _ := 0

/-- The arrays are as the region finds them. -/
theorem A_eq (c : Dev nD) (w : Fin cfg0.W) : (dats m 0 c).A w = V m c (Pipeline.arrRef spec0 w) := by
  dsimp only [dats]

/-- The body leaves the input's buffer at its block. -/
theorem after0_0 (c : Dev nD) (t : Fin cfg0.N) : (dats m 0 c).after 0 t = iblk m c 0 t := by dsimp only [dats]
/-- The body leaves the output's buffer at `outAt`. -/
theorem after0_1 (c : Dev nD) (t : Fin cfg0.N) : (dats m 0 c).after 1 t = outAt m c t := by dsimp only [dats]

/-- The input's current staging buffer holds its block at every point. -/
theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

/-- The body at any point: the triple applies, and the scratch word is not touched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  unfold outAt
  iintro ⟨HS, Ho, ⟨%d0, H0⟩, ⟨%d1, H1⟩⟩
  iapply (body_triple c (grid0.coords t) _ _ _ _ _ _ (iblk m c 0 t) Set.univ _)
  isplitl [H0]; · iexact H0
  isplitl [H1]; · iexists _; iexact H1
  iintro ⟨H0, H1⟩
  isplitl [HS]; · iexact HS
  isplitl [Ho]; · iexact Ho
  isplitl [H0]; · iexact H0
  iexact H1

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The obligation at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- Every execution of the program ends with the pipeline's arrays at what the proof data computes, every other buffer as
    the lines after the region leave it, and every counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The same run without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The frame: the argument array ends unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (frame_of m ρ (dats m) (A_eq m) (run_main m ρ)) ((θ_run defs _ _).mono (fun _ h => h.2) (run_main_quiescent m ρ))

end Cert.KernelIdeal.Run

end
-- ==== Proof.Net.lean ====
/-
  The bitonic network over 1024 positions, and the form the kernel runs levels seven to nine in: all blocks are merged
  upward and the blocks that were to be merged downward are then reversed. The two agree stage by stage, whatever the
  entries are.
-/
module

public import Idealize.ShloMosaic.Lib.SortNet.Sorts

@[expose] public section

namespace SortK

open Idealize.ShloMosaic.SortNet

/-- A position of the sorted line. -/
abbrev Pos := Fin (2 ^ 10)

/-- The position with the bits of `m` changed. -/
def flipBits (m : Nat) (p : Pos) : Pos := ⟨(p.val ^^^ m) % 2 ^ 10, Nat.mod_lt _ (Nat.two_pow_pos 10)⟩

variable {α : Type*} [LinearOrder α]

/-- The smaller of the pair at distance `2 ^ s` goes to the earlier position where `up` says so. -/
def step (s : Nat) (up : Pos → Bool) (v : Pos → α) : Pos → α := fun p =>
  if decide (p.val &&& 2 ^ s = 0) = up p then min (v p) (v (flipBits (2 ^ s) p)) else max (v p) (v (flipBits (2 ^ s) p))

/-- The number of a position with bits flipped. -/
theorem flipBits_val {m : Nat} (hm : m < 2 ^ 10) (p : Pos) : (flipBits m p).val = p.val ^^^ m :=
  Nat.mod_eq_of_lt (Nat.xor_lt_two_pow p.isLt hm)

/-- Two flips are one flip. -/
theorem flipBits_flipBits {m n : Nat} (hm : m < 2 ^ 10) (hn : n < 2 ^ 10) (p : Pos) :
    flipBits m (flipBits n p) = flipBits (n ^^^ m) p := by
  apply Fin.ext
  rw [flipBits_val hm, flipBits_val hn, flipBits_val (Nat.xor_lt_two_pow hn hm), Nat.xor_assoc]

/-- A flip leaves the other bits alone. -/
theorem flipBits_and {m d : Nat} (hm : m < 2 ^ 10) (p : Pos) (h : m &&& d = 0) :
    (flipBits m p).val &&& d = p.val &&& d := by
  rw [flipBits_val hm, Nat.and_xor_distrib_right, h, Nat.xor_zero]

/-- A single bit is clear or set. -/
theorem and_pow_cases (n s : Nat) : n &&& 2 ^ s = 0 ∨ n &&& 2 ^ s = 2 ^ s := by
  cases h : n.testBit s
  · left
    apply Nat.eq_of_testBit_eq
    intro t
    rw [Nat.testBit_and, Nat.testBit_two_pow, Nat.zero_testBit]
    by_cases ht : s = t
    · rw [← ht, h, Bool.false_and]
    · simp [ht]
  · right
    apply Nat.eq_of_testBit_eq
    intro t
    rw [Nat.testBit_and, Nat.testBit_two_pow]
    by_cases ht : s = t
    · rw [← ht, h, Bool.true_and]
    · simp [ht]

/-- A stage of the network is a step, when the two positions of a pair have one direction. -/
theorem stage_eq_step {s : Nat} (hs : s < 10) (w up : Pos → Bool) (hw : ∀ p, w p = !up p)
    (hup : ∀ p, up (flipBits (2 ^ s) p) = up p) (v : Pos → α) : Network.apply (stage 10 s w) v = step s up v := by
  have hpart : ∀ p : Pos, partner 10 s p = flipBits (2 ^ s) p := fun _ => rfl
  funext p
  by_cases hp : p.val &&& 2 ^ s = 0
  · rw [(apply_stage hs w v p hp).1, hw, hpart]
    unfold step
    rw [decide_eq_true hp]
    cases up p <;> simp
  · have hq := partner_and_of_set hs p hp
    have h := (apply_stage hs w v _ hq).2
    rw [partner_partner hs, hw, hpart, hup] at h
    rw [h]
    unfold step
    rw [decide_eq_false hp, min_comm, max_comm]
    cases up p <;> simp

/-- The positions with bit `b` set read at the position with the bits of `m` changed. -/
def mirror (b m : Nat) (v : Pos → α) : Pos → α := fun p => if p.val &&& 2 ^ b = 0 then v p else v (flipBits m p)

/-- Mirroring nothing changes nothing. -/
theorem mirror_zero (b : Nat) (v : Pos → α) : mirror b 0 v = v := by
  funext p
  have : flipBits 0 p = p := Fin.ext (by rw [flipBits_val (by decide), Nat.xor_zero])
  unfold mirror
  rw [this, ite_self]

/-- A step in the direction that bit `b` gives, after a mirroring in the bits above `s`, is the upward step followed by
    a mirroring in the bits from `s` on. -/
theorem step_mirror {s b m : Nat} (hs : s < 10) (hm : m < 2 ^ 10) (hsb : 2 ^ s &&& 2 ^ b = 0) (hmb : m &&& 2 ^ s = 0)
    (hmm : (m ^^^ 2 ^ s) &&& 2 ^ b = 0) (v : Pos → α) :
    step s (fun p => decide (p.val &&& 2 ^ b = 0)) (mirror b m v) = mirror b (m ^^^ 2 ^ s) (step s (fun _ => true) v) := by
  have h2 : 2 ^ s < 2 ^ 10 := Nat.pow_lt_pow_right (by decide) hs
  have hn : m ^^^ 2 ^ s < 2 ^ 10 := Nat.xor_lt_two_pow hm h2
  funext p
  by_cases hp : p.val &&& 2 ^ b = 0
  · simp only [step, mirror, flipBits_and h2 p hsb, hp, if_true, decide_true]
  · have e1 : flipBits m (flipBits (2 ^ s) p) = flipBits (m ^^^ 2 ^ s) p := by
      rw [flipBits_flipBits hm h2, Nat.xor_comm]
    have e2 : flipBits (2 ^ s) (flipBits (m ^^^ 2 ^ s) p) = flipBits m p := by
      rw [flipBits_flipBits h2 hn, Nat.xor_assoc, Nat.xor_self, Nat.xor_zero]
    have e3 : decide ((flipBits (m ^^^ 2 ^ s) p).val &&& 2 ^ s = 0) = !decide (p.val &&& 2 ^ s = 0) := by
      rw [flipBits_val hn, Nat.and_xor_distrib_right, Nat.and_xor_distrib_right, hmb, Nat.and_self, Nat.zero_xor]
      have hpos : 2 ^ s ≠ 0 := (Nat.two_pow_pos s).ne'
      rcases and_pow_cases p.val s with h | h <;> rw [h] <;> simp
    simp only [step, mirror, flipBits_and h2 p hsb, hp, if_false, decide_false, e1, e2, e3]
    rw [min_comm, max_comm (v (flipBits m p))]
    cases decide (p.val &&& 2 ^ s = 0) <;> simp

/-- The upward merge over the seven low bits. -/
def mergeUp (v : Pos → α) : Pos → α :=
  step 0 (fun _ => true) (step 1 (fun _ => true) (step 2 (fun _ => true) (step 3 (fun _ => true)
    (step 4 (fun _ => true) (step 5 (fun _ => true) (step 6 (fun _ => true) v))))))

/-- The merge over the seven low bits in the direction that bit `b` gives. -/
def mergeBy (b : Nat) (v : Pos → α) : Pos → α :=
  step 0 (fun p => decide (p.val &&& 2 ^ b = 0)) (step 1 (fun p => decide (p.val &&& 2 ^ b = 0))
    (step 2 (fun p => decide (p.val &&& 2 ^ b = 0)) (step 3 (fun p => decide (p.val &&& 2 ^ b = 0))
    (step 4 (fun p => decide (p.val &&& 2 ^ b = 0)) (step 5 (fun p => decide (p.val &&& 2 ^ b = 0))
    (step 6 (fun p => decide (p.val &&& 2 ^ b = 0)) v))))))

/-- Merging upward and then reversing the blocks of 128 where bit `b` is set is merging in the direction of bit `b`. -/
theorem mergeBy_eq {b : Nat} (hb : 7 ≤ b) (v : Pos → α) : mergeBy b v = mirror b 127 (mergeUp v) := by
  have hbit : ∀ n : Nat, n < 2 ^ 7 → n &&& 2 ^ b = 0 := by
    intro n hn
    rcases and_pow_cases n b with h | h
    · exact h
    · have h1 : n &&& 2 ^ b ≤ n := Nat.and_le_left
      have h2 : 2 ^ 7 ≤ 2 ^ b := Nat.pow_le_pow_right (by decide) hb
      omega
  have h6 := step_mirror (s := 6) (b := b) (m := 0) (by decide) (by decide) (hbit _ (by decide)) rfl (hbit _ (by decide)) v
  rw [mirror_zero] at h6
  unfold mergeBy mergeUp
  rw [h6,
    step_mirror (s := 5) (by decide) (by decide) (hbit _ (by decide)) rfl (hbit _ (by decide)),
    step_mirror (s := 4) (by decide) (by decide) (hbit _ (by decide)) rfl (hbit _ (by decide)),
    step_mirror (s := 3) (by decide) (by decide) (hbit _ (by decide)) rfl (hbit _ (by decide)),
    step_mirror (s := 2) (by decide) (by decide) (hbit _ (by decide)) rfl (hbit _ (by decide)),
    step_mirror (s := 1) (by decide) (by decide) (hbit _ (by decide)) rfl (hbit _ (by decide)),
    step_mirror (s := 0) (by decide) (by decide) (hbit _ (by decide)) rfl (hbit _ (by decide))]
  rfl

/-- The direction of level `l + 1` of the sort. -/
abbrev dir (l : Nat) : Pos → Bool := fun p => decide (p.val &&& 2 ^ (l + 1) = 0)

/-- Level `l + 1` of the sort: distances `2 ^ l` down to one. -/
def level (l : Nat) (v : Pos → α) : Pos → α := (List.range (l + 1)).reverse.foldl (fun v s => step s (dir l) v) v

/-- Stages of one level in a row are the steps one after the other. -/
theorem apply_flatMap_stage (l : Nat) (hl : l < 10) : ∀ (L : List Nat) (_ : ∀ s ∈ L, s ≤ l) (v : Pos → α),
    Network.apply (L.flatMap fun s => stage 10 s fun i => (decide (i.val &&& 2 ^ (l + 1) = 0)) == false) v
      = L.foldl (fun v s => step s (dir l) v) v
  | [], _, _ => rfl
  | s :: L, h, v => by
    have hs : s ≤ l := h s (by simp)
    rw [List.flatMap_cons, Network.apply_append, List.foldl_cons, ← apply_flatMap_stage l hl L (fun t ht => h t (by simp [ht])),
      stage_eq_step (by omega) _ (dir l)]
    · intro p
      unfold dir
      cases decide (p.val &&& 2 ^ (l + 1) = 0) <;> rfl
    · intro p
      have hand : 2 ^ s &&& 2 ^ (l + 1) = 0 := by
        apply Nat.eq_of_testBit_eq
        intro t
        rw [Nat.testBit_and, Nat.testBit_two_pow, Nat.testBit_two_pow, Nat.zero_testBit]
        by_cases ht : s = t
        · simp only [ht, decide_true, Bool.true_and, decide_eq_false_iff_not]
          omega
        · simp [ht]
      unfold dir
      rw [flipBits_and (Nat.pow_lt_pow_right (by decide) (by omega)) p hand]

/-- The whole sort, level by level. -/
theorem sortNet_eq_levels (v : Pos → α) :
    Network.apply (sortNet 10 false) v
      = level 9 (level 8 (level 7 (level 6 (level 5 (level 4 (level 3 (level 2 (level 1 (level 0 v))))))))) := by
  have key : ∀ (n : Nat) (_ : n ≤ 10) (v : Pos → α),
      Network.apply ((List.range n).flatMap fun l => (List.range (l + 1)).reverse.flatMap fun s =>
        stage 10 s fun i => (decide (i.val &&& 2 ^ (l + 1) = 0)) == false) v = (List.range n).foldl (fun v l => level l v) v := by
    intro n
    induction n with
    | zero => intro _ v; rfl
    | succ n ih =>
      intro hn v
      rw [List.range_succ, List.flatMap_append, Network.apply_append, ih (by omega), List.foldl_append]
      simp only [List.flatMap_cons, List.flatMap_nil, List.append_nil, List.foldl_cons, List.foldl_nil]
      rw [apply_flatMap_stage n (by omega) _ (by simp; omega)]
      rfl
  exact key 10 (le_refl _) v

end SortK

end
-- ==== Proof.Column.lean ====
/-
  What the stages of the block function do to one row of the block (a column of the transposed block), read as a line of
  1024 positions: position `128 q + g` is place `q` of slab `g`. Over the extended reals.
-/
module

public import proofs.«01_k».proof.Proof.Model
public import proofs.«01_k».proof.Proof.Net
public import Idealize.ShloMosaic.PureOps.Ideal
public import Idealize.ShloMosaic.Lib.Pointwise

@[expose] public section

noncomputable section

namespace SortK

open Idealize.ShloMosaic Idealize.ShloMosaic.SortNet

/-- The place of a position, -/
def place (p : Pos) : Fin 8 := ⟨p.val / 128, by have : p.val < 1024 := p.isLt; omega⟩

/-- Line `r` of the slabs. -/
def line (S : Slabs Ideal) (r : Fin 1024) (p : Pos) : EReal := S (p.val % 128) (ix2 (place p) r)

/-- A family read by cases is the family. -/
theorem nth_eq {α : Type} (S : Nat → α) (n : Nat) : nth S n = S n := by cases n <;> rfl
/-- A choice by cases is a conditional. -/
theorem pick_eq {α : Type} (b : Nat) (x y : α) : pick b x y = if b = 0 then x else y := by cases b <;> rfl

/-! ## Stages between slabs -/

/-- The slab bit `s` of a position is the position's bit `s`, and its partner's slab and place. -/
theorem slab_flip : ∀ (s : Fin 7) (p : Pos), (flipBits (2 ^ s.val) p).val % 128 = (p.val % 128) ^^^ 2 ^ s.val
    ∧ place (flipBits (2 ^ s.val) p) = place p ∧ (p.val % 128) &&& 2 ^ s.val = p.val &&& 2 ^ s.val := by
  decide +kernel

/-- Minimum and maximum of paired slabs, along a line, are a step. -/
theorem line_pairs (s : Nat) (hs : s < 7) (k : Nat) (up : Pos → Bool) (hup : ∀ p : Pos, up p = decide ((p.val % 128) &&& k = 0))
    (S : Slabs Ideal) (r : Fin 1024) : line (pairs (2 ^ s) k S) r = step s up (line S r) := by
  funext p
  obtain ⟨h1, h2, h3⟩ := slab_flip ⟨s, hs⟩ p
  simp only at h1 h2 h3
  simp only [line, step, hup, h1, h2, pairs, pick_eq, nth_eq, h3]
  by_cases a : p.val &&& 2 ^ s = 0 <;> by_cases b : (p.val % 128) &&& k = 0
  · simp only [a, b, if_true, decide_true]; rfl
  · simp [a, b]; rfl
  · simp [a, b]; exact max_comm _ _
  · simp [a, b]; exact min_comm _ _

/-! ## Masks and turns at a place -/

/-- The mask of the places with a bit clear. -/
theorem clear_apply (q : Fin 8) (r : Fin 1024) (d : BitVec 32) :
    clear d (ix2 q r) = IntOp.cmpi .eq (IntOp.andi (BitVec.ofNat 32 q.val) d) 0#32 := by
  pointwise [clear]

/-- The mask of the places with a bit set. -/
theorem isSet_apply (q : Fin 8) (r : Fin 1024) (d : BitVec 32) :
    isSet d (ix2 q r) = IntOp.cmpi .ne (IntOp.andi (BitVec.ofNat 32 q.val) d) 0#32 := by
  pointwise [isSet]

/-- The mask of the places where two bits agree. -/
theorem agree_apply (q : Fin 8) (r : Fin 1024) (a d : BitVec 32) :
    agree a d (ix2 q r) = IntOp.xori (IntOp.xori (clear a (ix2 q r)) (clear d (ix2 q r))) 1#1 := by
  pointwise [agree]

/-- The place with the bits of `d` changed. -/
def flipPlace (d : Nat) (q : Fin 8) : Fin 8 := ⟨(q.val ^^^ d) % 8, Nat.mod_lt _ (by decide)⟩

/-- Rolled up by one place. -/
theorem up1_apply (c : Slab Ideal) (q : Fin 8) (r : Fin 1024) : up1 c (ix2 q r) = c (ix2 (q + 1) r) := by
  pointwise [up1]
  fin_cases q <;> rfl
/-- Rolled down by one place. -/
theorem dn1_apply (c : Slab Ideal) (q : Fin 8) (r : Fin 1024) : dn1 c (ix2 q r) = c (ix2 (q + 7) r) := by
  pointwise [dn1]
  fin_cases q <;> rfl
/-- Rolled up by two places. -/
theorem up2_apply (c : Slab Ideal) (q : Fin 8) (r : Fin 1024) : up2 c (ix2 q r) = c (ix2 (q + 2) r) := by
  pointwise [up2]
  fin_cases q <;> rfl
/-- Rolled down by two places. -/
theorem dn2_apply (c : Slab Ideal) (q : Fin 8) (r : Fin 1024) : dn2 c (ix2 q r) = c (ix2 (q + 6) r) := by
  pointwise [dn2]
  fin_cases q <;> rfl
/-- Rolled by four places: the places with bit 4 flipped. -/
theorem half_apply (c : Slab Ideal) (q : Fin 8) (r : Fin 1024) : half c (ix2 q r) = c (ix2 (flipPlace 4 q) r) := by
  pointwise [half]
  fin_cases q <;> rfl

/-- A selection at an index. -/
theorem select_apply (m : IVec S8 1) (x y : Slab Ideal) (j : S8.Idx) : select m x y j = if m j = 1#1 then x j else y j := rfl

/-- Each place with its neighbour in bit 1. -/
theorem with1_apply (c : Slab Ideal) (q : Fin 8) (r : Fin 1024) : with1 c (ix2 q r) = c (ix2 (flipPlace 1 q) r) := by
  unfold with1
  rw [select_apply, clear_apply, up1_apply, dn1_apply]
  fin_cases q <;> rfl
/-- Each place with its neighbour in bit 2. -/
theorem with2_apply (c : Slab Ideal) (q : Fin 8) (r : Fin 1024) : with2 c (ix2 q r) = c (ix2 (flipPlace 2 q) r) := by
  unfold with2
  rw [select_apply, clear_apply, up2_apply, dn2_apply]
  fin_cases q <;> rfl

/-! ## Stages inside a slab -/

/-- Flipping a high bit of a position flips a bit of its place and keeps its slab. -/
theorem place_flip : ∀ (b : Fin 3) (p : Pos), (flipBits (2 ^ (7 + b.val)) p).val % 128 = p.val % 128
    ∧ place (flipBits (2 ^ (7 + b.val)) p) = flipPlace (2 ^ b.val) (place p) := by
  decide +kernel

/-- A step inside the slabs, along a line, is a step of the network. -/
theorem line_inside (b : Nat) (hb : b < 3) (w : Slab Ideal → Slab Ideal) (keep : IVec S8 1) (up : Pos → Bool)
    (hw : ∀ c q r, w c (ix2 q r) = c (ix2 (flipPlace (2 ^ b) q) r))
    (hk : ∀ (p : Pos) (r : Fin 1024), (keep (ix2 (place p) r) = 1#1) = (decide (p.val &&& 2 ^ (7 + b) = 0) = up p))
    (S : Slabs Ideal) (r : Fin 1024) : line (inside w keep S) r = step (7 + b) up (line S r) := by
  funext p
  obtain ⟨h1, h2⟩ := place_flip ⟨b, hb⟩ p
  simp only at h1 h2
  simp only [line, step, inside, select_apply, h1, h2, hk, minimumf, maximumf, hw]
  rfl

/-! ## The reversal -/

/-- Flipping the low seven bits reverses the slabs and keeps the place. -/
theorem slab_reverse : ∀ p : Pos, (flipBits 127 p).val % 128 = 127 - p.val % 128 ∧ place (flipBits 127 p) = place p := by
  decide +kernel

/-- Reading the slabs backwards where the mask is zero, along a line, is mirroring the blocks of 128 where bit `b` is set. -/
theorem line_turn (b : Nat) (mask : IVec S8 1)
    (hk : ∀ (p : Pos) (r : Fin 1024), (mask (ix2 (place p) r) = 1#1) = (p.val &&& 2 ^ b = 0))
    (S : Slabs Ideal) (r : Fin 1024) : line (turn mask S) r = mirror b 127 (line S r) := by
  funext p
  obtain ⟨h1, h2⟩ := slab_reverse p
  simp only [line, mirror, turn, select_apply, nth_eq, h1, h2, hk]

/-! ## The regrouping -/

/-- The position with bits `i` and `7 + i` exchanged. -/
def swapBits (i : Nat) (p : Pos) : Pos :=
  if decide (p.val &&& 2 ^ i = 0) = decide (p.val &&& 2 ^ (7 + i) = 0) then p else flipBits (2 ^ i + 2 ^ (7 + i)) p

/-- How a regrouping exchanges a bit of the slab with a bit of the place. -/
theorem swap_facts : ∀ (i : Fin 3) (p : Pos), ((p.val % 128) &&& 2 ^ i.val = p.val &&& 2 ^ i.val)
    ∧ ((place p).val &&& 2 ^ i.val = 0 ↔ p.val &&& 2 ^ (7 + i.val) = 0)
    ∧ (flipBits (2 ^ i.val + 2 ^ (7 + i.val)) p).val % 128 = (p.val % 128) ^^^ 2 ^ i.val
    ∧ place (flipBits (2 ^ i.val + 2 ^ (7 + i.val)) p) = flipPlace (2 ^ i.val) (place p) := by
  decide +kernel

/-- A regrouping, along a line, exchanges two bits of the position. -/
theorem line_regroup (i : Nat) (hi : i < 3) (b : BitVec 32) (dn up : Slab Ideal → Slab Ideal)
    (hb : ∀ (q : Fin 8) (r : Fin 1024), (isSet b (ix2 q r) = 1#1) = ¬(q.val &&& 2 ^ i = 0))
    (hdn : ∀ c (q : Fin 8) r, ¬(q.val &&& 2 ^ i = 0) → dn c (ix2 q r) = c (ix2 (flipPlace (2 ^ i) q) r))
    (hup : ∀ c (q : Fin 8) r, q.val &&& 2 ^ i = 0 → up c (ix2 q r) = c (ix2 (flipPlace (2 ^ i) q) r))
    (S : Slabs Ideal) (r : Fin 1024) : line (regroup (2 ^ i) b dn up S) r = fun p => line S r (swapBits i p) := by
  funext p
  obtain ⟨h1, h2, h3, h4⟩ := swap_facts ⟨i, hi⟩ p
  simp only at h1 h2 h3 h4
  simp only [line, regroup, pick_eq, nth_eq, h1]
  unfold swapBits
  by_cases a : p.val &&& 2 ^ i = 0 <;> by_cases c : (place p).val &&& 2 ^ i = 0
  · have c' := h2.mp c
    simp [a, c, c', select_apply, hb]
  · have c' : ¬(p.val &&& 2 ^ (7 + i) = 0) := fun h => c (h2.mpr h)
    simp [a, c, c', select_apply, hb, hdn _ _ _ c, h3, h4]
  · have c' := h2.mp c
    simp [a, c, c', select_apply, hb, hup _ _ _ c, h3, h4]
  · have c' : ¬(p.val &&& 2 ^ (7 + i) = 0) := fun h => c (h2.mpr h)
    simp [a, c, c', select_apply, hb]

/-! ## All stages -/

/-- Running two lists of stages. -/
theorem run_append (A B : List (Slabs Ideal → Slabs Ideal)) (S : Slabs Ideal) : run (A ++ B) S = run A (run B S) := by
  induction A with
  | nil => rfl
  | cons f A ih => exact congrArg f ih

/-- The stages between slabs at the distances of `L`, the last of the list first. -/
abbrev slabStages (L : List Nat) (k : Nat) : List (Slabs Ideal → Slabs Ideal) := L.map fun s => pairs (2 ^ s) k

/-- Steps between slabs, along a line, in one direction pattern. -/
theorem line_slabStages (k : Nat) (up : Pos → Bool) (hup : ∀ p : Pos, up p = decide ((p.val % 128) &&& k = 0)) :
    ∀ (L : List Nat) (_ : ∀ s ∈ L, s < 7) (S : Slabs Ideal) (r : Fin 1024),
      line (run (slabStages L k) S) r = L.foldr (fun s v => step s up v) (line S r)
  | [], _, _, _ => rfl
  | s :: L, h, S, r => by
    show line (pairs (2 ^ s) k (run (slabStages L k) S)) r = step s up (L.foldr (fun s v => step s up v) (line S r))
    rw [line_pairs s (h s (by simp)) k up hup, line_slabStages k up hup L (fun t ht => h t (by simp [ht]))]

/-- Levels one to six stay inside the slab's number. -/
theorem line_low (l : Nat) (hl : l < 6) (S : Slabs Ideal) (r : Fin 1024) :
    line (run (slabStages (List.range (l + 1)) (2 ^ (l + 1))) S) r = level l (line S r) := by
  have key : ∀ (l : Fin 6) (p : Pos), dir l.val p = decide ((p.val % 128) &&& 2 ^ (l.val + 1) = 0) := by decide +kernel
  rw [line_slabStages _ (dir l) (key ⟨l, hl⟩) _ (fun s hs => by have := List.mem_range.mp hs; omega)]
  unfold level
  rw [List.foldl_reverse]

/-- All blocks of 128 merged upward. -/
theorem line_merge (S : Slabs Ideal) (r : Fin 1024) :
    line (run (slabStages (List.range 7) 1024) S) r = mergeUp (line S r) := by
  have key : ∀ p : Pos, true = decide ((p.val % 128) &&& 1024 = 0) := by decide +kernel
  rw [line_slabStages _ (fun _ => true) key _ (fun s hs => List.mem_range.mp hs)]
  rfl

/-- … and those turned over where bit `b` is set: merged in the direction of bit `b`. -/
theorem line_turn_merge (b : Nat) (hb : 7 ≤ b) (mask : IVec S8 1)
    (hk : ∀ (p : Pos) (r : Fin 1024), (mask (ix2 (place p) r) = 1#1) = (p.val &&& 2 ^ b = 0)) (S : Slabs Ideal) (r : Fin 1024) :
    line (turn mask (run (slabStages (List.range 7) 1024) S)) r = mergeBy b (line S r) := by
  rw [line_turn b mask hk, line_merge, mergeBy_eq hb]

/-! The masks the kernel computes, at a position. -/

/-- The mask of bit 1 of the place is bit 7 of the position. -/
theorem clear1_at (p : Pos) (r : Fin 1024) : (clear 1#32 (ix2 (place p) r) = 1#1) = (p.val &&& 2 ^ 7 = 0) := by
  rw [clear_apply]
  exact (by decide +kernel : ∀ p : Pos, (IntOp.cmpi .eq (IntOp.andi (BitVec.ofNat 32 (place p).val) 1#32) 0#32 = 1#1) ↔ (p.val &&& 2 ^ 7 = 0)) p |> propext
/-- The mask of bit 2 of the place is bit 8 of the position. -/
theorem clear2_at (p : Pos) (r : Fin 1024) : (clear 2#32 (ix2 (place p) r) = 1#1) = (p.val &&& 2 ^ 8 = 0) := by
  rw [clear_apply]
  exact (by decide +kernel : ∀ p : Pos, (IntOp.cmpi .eq (IntOp.andi (BitVec.ofNat 32 (place p).val) 2#32) 0#32 = 1#1) ↔ (p.val &&& 2 ^ 8 = 0)) p |> propext
/-- The mask of bit 4 of the place is bit 9 of the position. -/
theorem clear4_at (p : Pos) (r : Fin 1024) : (clear 4#32 (ix2 (place p) r) = 1#1) = (p.val &&& 2 ^ 9 = 0) := by
  rw [clear_apply]
  exact (by decide +kernel : ∀ p : Pos, (IntOp.cmpi .eq (IntOp.andi (BitVec.ofNat 32 (place p).val) 4#32) 0#32 = 1#1) ↔ (p.val &&& 2 ^ 9 = 0)) p |> propext

/-- One where two bits agree, in terms of the two clear masks. -/
theorem agree_at {a d : BitVec 32} {A D : Prop} [Decidable A] [Decidable D] {q : Fin 8} {r : Fin 1024}
    (ha : (clear a (ix2 q r) = 1#1) = A) (hd : (clear d (ix2 q r) = 1#1) = D) :
    (agree a d (ix2 q r) = 1#1) = (decide D = decide A) := by
  have key : ∀ x y : BitVec 1, (IntOp.xori (IntOp.xori x y) 1#1 = 1#1) ↔ (y = 1#1 ↔ x = 1#1) := by decide
  rw [agree_apply, eq_iff_iff, key, ha, hd, decide_eq_decide]

/-- The upward direction everywhere. -/
theorem up_at {A D : Prop} [Decidable A] (h : D = A) : D = (decide A = true) := by rw [h, decide_eq_true_eq]

/-- The mask of a set bit, decided at every place. -/
theorem isSet_at : ∀ (q : Fin 8) (i : Fin 3), (IntOp.cmpi .ne (IntOp.andi (BitVec.ofNat 32 q.val) (BitVec.ofNat 32 (2 ^ i.val))) 0#32 = 1#1)
    ↔ ¬(q.val &&& 2 ^ i.val = 0) := by decide +kernel

/-! The blocks of stages that levels seven to ten are, and the regrouping. -/

/-- The stages of level 7. -/
def block7 : List (Slabs Ideal → Slabs Ideal) := [turn (clear 1#32)] ++ slabStages (List.range 7) 1024
/-- The stages of level 8. -/
def block8 : List (Slabs Ideal → Slabs Ideal) :=
  [turn (clear 2#32)] ++ slabStages (List.range 7) 1024 ++ [inside with1 (agree 2#32 1#32)]
/-- The stages of level 9. -/
def block9 : List (Slabs Ideal → Slabs Ideal) :=
  [turn (clear 4#32)] ++ slabStages (List.range 7) 1024 ++ [inside with1 (agree 4#32 1#32), inside with2 (agree 4#32 2#32)]
/-- The stages of level 10. -/
def block10 : List (Slabs Ideal → Slabs Ideal) :=
  slabStages (List.range 7) 1024 ++ [inside with1 (clear 1#32), inside with2 (clear 2#32), inside half (clear 4#32)]
/-- The three regroupings. -/
def regroups : List (Slabs Ideal → Slabs Ideal) :=
  [regroup 4 4#32 half half, regroup 2 2#32 dn2 up2, regroup 1 1#32 dn1 up1]
/-- The stages of a level below 7. -/
def low (l : Nat) : List (Slabs Ideal → Slabs Ideal) := slabStages (List.range (l + 1)) (2 ^ (l + 1))

/-- All stages, level by level. -/
theorem stages_eq : (stages : List (Slabs Ideal → Slabs Ideal)) =
    regroups ++ (block10 ++ (block9 ++ (block8 ++ (block7 ++ (low 5 ++ (low 4 ++ (low 3 ++ (low 2 ++ (low 1 ++ low 0))))))))) := rfl

/-- Level 7 along a line. -/
theorem line_level7 (S : Slabs Ideal) (r : Fin 1024) :
    line (run block7 S) r = level 6 (line S r) :=
  line_turn_merge 7 (by decide) _ clear1_at S r

/-- Level 8 along a line. -/
theorem line_level8 (S : Slabs Ideal) (r : Fin 1024) :
    line (run block8 S) r = level 7 (line S r) := by
  unfold block8
  rw [run_append]
  refine (line_turn_merge 8 (by decide) _ clear2_at _ r).trans ?_
  exact congrArg (mergeBy 8) (line_inside 0 (by decide) _ _ (dir 7) with1_apply (fun p r => agree_at (clear2_at p r) (clear1_at p r)) S r)

/-- Level 9 along a line. -/
theorem line_level9 (S : Slabs Ideal) (r : Fin 1024) :
    line (run block9 S) r = level 8 (line S r) := by
  unfold block9
  rw [run_append]
  refine (line_turn_merge 9 (by decide) _ clear4_at _ r).trans ?_
  refine congrArg (mergeBy 9) ((line_inside 0 (by decide) _ _ (dir 8) with1_apply (fun p r => agree_at (clear4_at p r) (clear1_at p r)) _ r).trans ?_)
  exact congrArg (step 7 (dir 8)) (line_inside 1 (by decide) _ _ (dir 8) with2_apply (fun p r => agree_at (clear4_at p r) (clear2_at p r)) S r)

/-- Level 10 along a line. -/
theorem line_level10 (S : Slabs Ideal) (r : Fin 1024) :
    line (run block10 S) r = level 9 (line S r) := by
  unfold block10
  have hdir : dir 9 = fun _ => true := funext (by decide +kernel)
  have hl : ∀ v : Pos → EReal, level 9 v = mergeUp (step 7 (fun _ => true) (step 8 (fun _ => true) (step 9 (fun _ => true) v))) := by
    intro v
    unfold level
    rw [hdir]
    rfl
  rw [run_append, line_merge, hl]
  refine congrArg mergeUp ((line_inside 0 (by decide) _ _ (fun _ => true) with1_apply (fun p r => up_at (clear1_at p r)) _ r).trans ?_)
  refine congrArg (step 7 _) ((line_inside 1 (by decide) _ _ (fun _ => true) with2_apply (fun p r => up_at (clear2_at p r)) _ r).trans ?_)
  exact congrArg (step 8 _) (line_inside 2 (by decide) _ _ (fun _ => true) half_apply (fun p r => up_at (clear4_at p r)) S r)

/-- The regrouping as a whole. -/
def regrouped (p : Pos) : Pos := swapBits 0 (swapBits 1 (swapBits 2 p))

/-- A regrouping, along a line, exchanges two bits of the position. -/
theorem line_regroups (S : Slabs Ideal) (r : Fin 1024) :
    line (run regroups S) r = fun p => line S r (regrouped p) := by
  have h1 : ∀ T : Slabs Ideal, line (regroup (2 ^ 0) 1#32 dn1 up1 T) r = fun p => line T r (swapBits 0 p) := fun T =>
    line_regroup 0 (by decide) _ _ _ (fun q r => by rw [isSet_apply]; exact propext (isSet_at q 0))
      (fun c q r h => by rw [dn1_apply]; revert h; fin_cases q <;> first | exact fun _ => rfl | exact fun h => absurd rfl h)
      (fun c q r h => by rw [up1_apply]; revert h; fin_cases q <;> first | exact fun _ => rfl | exact fun h => absurd h (by decide)) T r
  have h2 : ∀ T : Slabs Ideal, line (regroup (2 ^ 1) 2#32 dn2 up2 T) r = fun p => line T r (swapBits 1 p) := fun T =>
    line_regroup 1 (by decide) _ _ _ (fun q r => by rw [isSet_apply]; exact propext (isSet_at q 1))
      (fun c q r h => by rw [dn2_apply]; revert h; fin_cases q <;> first | exact fun _ => rfl | exact fun h => absurd rfl h)
      (fun c q r h => by rw [up2_apply]; revert h; fin_cases q <;> first | exact fun _ => rfl | exact fun h => absurd h (by decide)) T r
  have h4 : ∀ T : Slabs Ideal, line (regroup (2 ^ 2) 4#32 half half T) r = fun p => line T r (swapBits 2 p) := fun T =>
    line_regroup 2 (by decide) _ _ _ (fun q r => by rw [isSet_apply]; exact propext (isSet_at q 2))
      (fun c q r _ => half_apply c q r) (fun c q r _ => half_apply c q r) T r
  funext p
  refine (congrFun (h4 _) p).trans ?_
  refine (congrFun (h2 _) (swapBits 2 p)).trans ?_
  exact congrFun (h1 S) (swapBits 1 (swapBits 2 p))

/-- The stages are the bitonic network, read through the regrouping. -/
theorem line_stages (S : Slabs Ideal) (r : Fin 1024) (p : Pos) :
    line (run stages S) r p = Network.apply (sortNet 10 false) (line S r) (regrouped p) := by
  have hlow : ∀ (l : Nat) (_ : l < 6) (T : Slabs Ideal), line (run (low l) T) r = level l (line T r) := fun l hl T => line_low l hl T r
  rw [stages_eq, run_append regroups, line_regroups, run_append block10, line_level10, run_append block9, line_level9,
    run_append block8, line_level8, run_append block7, line_level7, run_append (low 5), hlow 5 (by decide),
    run_append (low 4), hlow 4 (by decide), run_append (low 3), hlow 3 (by decide), run_append (low 2), hlow 2 (by decide),
    run_append (low 1), hlow 1 (by decide), hlow 0 (by decide), sortNet_eq_levels]

end SortK

end

end
-- ==== Proof.Block.lean ====
/-
  The block function sorts every row of its block: each row of the result is monotone and a rearrangement of the row of
  the block. Over the extended reals.
-/
module

public import proofs.«01_k».proof.Proof.Column
public import Idealize.ShloMosaic.Lib.Pipeline.Value

@[expose] public section

noncomputable section

namespace SortK

open Idealize.ShloMosaic Idealize.ShloMosaic.SortNet

/-- The stacked slabs at row `c`: place `c % 8` of piece `c / 8`. -/
theorem stack_apply (S : Slabs Ideal) (c r : Fin 1024) :
    concatenate SB 0 (pieces S) (catB S) (ix2 c r)
      = S (8 * (c.val / 8 % 16) + c.val / 8 / 16) (ix2 ⟨c.val % 8, Nat.mod_lt _ (by decide)⟩ r) := by
  have hL : pieces S = List.ofFn fun k : Fin 128 => (⟨S8, S (8 * (k.val % 16) + k.val / 16)⟩ : (s : Shape) × (s.Idx → Ideal .f32)) := by
    unfold pieces
    rw [List.ofFn_eq_map, ← List.map_coe_finRange_eq_range, List.map_map]
    exact List.map_congr_left fun k _ => by simp only [Function.comp, nth_eq]
  have key : ∀ (L : List ((s : Shape) × (s.Idx → Ideal .f32))) (h : Shape.Concatenates (L.map (·.1)) SB 0)
      (_ : L = List.ofFn fun k : Fin 128 => (⟨S8, S (8 * (k.val % 16) + k.val / 16)⟩ : (s : Shape) × (s.Idx → Ideal .f32))),
      concatenate SB 0 L h (ix2 c r)
        = S (8 * (c.val / 8 % 16) + c.val / 8 / 16) (ix2 ⟨c.val % 8, Nat.mod_lt _ (by decide)⟩ r) := by
    intro L h e
    subst e
    exact concatenate_ofFn_apply (t := SB) (s₁ := S8) 0 (fun k : Fin 128 => S (8 * (k.val % 16) + k.val / 16)) h rfl 8 rfl (ix2 c r)
      ⟨c.val / 8, by omega⟩ rfl (ix2 ⟨c.val % 8, Nat.mod_lt _ (by decide)⟩ r) rfl
      (fun b hb => by fin_cases b; exact absurd rfl hb; rfl)
  exact key _ _ hL

/-- The position whose entry lands in column `c` before the regrouping. -/
def stackPos (c : Fin 1024) : Pos := ⟨c.val % 8 * 128 + (8 * (c.val / 8 % 16) + c.val / 8 / 16), by
  show _ < 1024
  omega⟩

/-- The slab and the place of a stacked row, and the row that the regrouping sends there. -/
theorem stackPos_slab : ∀ c : Fin 1024, (stackPos c).val % 128 = 8 * (c.val / 8 % 16) + c.val / 8 / 16
    ∧ (place (stackPos c)).val = c.val % 8 ∧ (regrouped (stackPos c)).val = c.val := by
  decide +kernel

/-- A transposed block at an index. -/
theorem transpose_apply' (x : FVec Ideal SB .f32) (a b : Fin 1024) : transpose SB [1, 0] x transB (ix2 a b) = x (ix2 b a) := by
  pointwise

/-- Where the column of a position comes from. -/
def source (p : Pos) : Fin 1024 := ⟨8 * (p.val % 128) + p.val / 128, by have : p.val < 1024 := p.isLt; omega⟩

/-- Each column of the block is the source of one position. -/
theorem source_bijective : Function.Bijective source :=
  Finite.injective_iff_bijective.mp (by
    intro p p' h
    have h' := congrArg Fin.val h
    simp only [source] at h'
    apply Fin.ext
    have := p.isLt
    have := p'.isLt
    omega)

/-- The line of positions that the sort starts from, in the columns of the block. -/
theorem line_slabs (x : FVec Ideal SB .f32) (r : Fin 1024) (p : Pos) :
    line (slabs (transpose SB [1, 0] (shapeCast SB x castB) transB)) r p = x (ix2 r (source p)) := by
  have hg : p.val % 128 % 128 = p.val % 128 := by omega
  unfold line slabs
  pointwise
  refine congrArg x (congrArg (ix2 r) (Fin.ext ?_))
  show 8 * (p.val % 128 % 128) + p.val / 128 = 8 * (p.val % 128) + p.val / 128
  rw [hg]

/-- A row of the result is the network's result on the row. -/
theorem blockSort_apply (x : FVec Ideal SB .f32) (r c : Fin 1024) :
    blockSort x (ix2 r c) = Network.apply (sortNet 10 false) (fun p => x (ix2 r (source p))) c := by
  obtain ⟨h1, h2, h3⟩ := stackPos_slab c
  unfold blockSort
  rw [transpose_apply', stack_apply]
  generalize hT : slabs (transpose SB [1, 0] (shapeCast SB x castB) transB) = T
  have e : run stages T (8 * (c.val / 8 % 16) + c.val / 8 / 16) (ix2 ⟨c.val % 8, Nat.mod_lt _ (by decide)⟩ r)
      = line (run stages T) r (stackPos c) := by
    unfold line
    rw [h1]
    exact congrArg (fun q => run stages T _ (ix2 q r)) (Fin.ext h2.symm)
  rw [e, line_stages, show regrouped (stackPos c) = c from Fin.ext h3, ← hT]
  exact congrArg (fun v => Network.apply (sortNet 10 false) v c) (funext fun p => line_slabs x r p)

/-- Every row of the result is monotone and a rearrangement of the row. -/
theorem blockSort_row (x : FVec Ideal SB .f32) (r : Fin 1024) :
    Monotone (fun c : Fin 1024 => blockSort x (ix2 r c))
      ∧ ∃ σ : Equiv.Perm (Fin 1024), (fun c : Fin 1024 => blockSort x (ix2 r c)) = (fun c => x (ix2 r c)) ∘ σ := by
  have e : (fun c : Fin 1024 => blockSort x (ix2 r c)) = Network.apply (sortNet 10 false) (fun p => x (ix2 r (source p))) :=
    funext fun c => blockSort_apply x r c
  rw [e]
  refine ⟨sortNet_apply_monotone 10 _, ?_⟩
  obtain ⟨σ, hσ⟩ := Network.exists_perm (sortNet 10 false) (fun p : Pos => x (ix2 r (source p)))
  exact ⟨σ.trans (Equiv.ofBijective source source_bijective), hσ⟩

end SortK

end

end
-- ==== Proof.HostSort.lean ====
/-
  The host's sort along the last axis of an array, over the extended reals: each line of the result is monotone and a
  rearrangement of the line; and two such rearrangements of one line are equal.
-/
module

public import proofs.«01_k».proof.ReferenceIdeal
public import Idealize.ShloMosaic.Lib.SortFacts
public import Idealize.ShloMosaic.Lib.Pointwise
public import Mathlib.Data.List.OfFn
public import Mathlib.Data.List.FinRange

@[expose] public section

noncomputable section

namespace SortK

open Idealize.ShloMosaic Cert.ReferenceIdeal

/-- The comparator is the order of the extended reals. -/
theorem comparator_eq (a b : Ideal .f32) : (comparator_f32_d2 (F := Ideal) a b == 1#1) = decide ((a : EReal) < b) := by
  have canon : ∀ y : Ideal .f32, Scalar.select (FloatOps.cmpf .une y y) (FloatOps.ofBits .f32 0x7FC00000#32 : Ideal .f32)
      (Scalar.select (FloatOps.cmpf .oeq y (FloatOps.ofBits .f32 0x00000000#32)) (FloatOps.ofBits .f32 0x00000000#32) y) = y := by
    intro y
    have h1 : FloatOps.cmpf (F := Ideal) (φ := .f32) .une y y = 0#1 := by
      show BitVec.ofBool (decide (y ≠ y)) = 0#1
      simp
    rw [h1]
    show Scalar.select (BitVec.ofBool (decide (y = _))) _ y = y
    by_cases h : y = FloatOps.ofBits (F := Ideal) .f32 0x00000000#32
    · rw [← h]
      simp [Scalar.select]
    · rw [decide_eq_false h]
      rfl
  unfold comparator_f32_d2
  simp only [canon]
  show (BitVec.ofBool (decide ((a : EReal) < b)) == 1#1) = _
  cases decide ((a : EReal) < b) <;> rfl

/-- The host's sort at an index of the last axis. -/
theorem hostSort_apply (x : FVec Ideal S4x4096x1024 .f32) (b : Fin 4) (t : Fin 4096) (c : Fin 1024) :
    Host.sort S4x4096x1024 2 (comparator_f32_d2 (F := Ideal)) x (ix3 b t c)
      = x (ix3 b t (sortedFrom (fun k k' : Fin 1024 => decide ((x (ix3 b t k) : EReal) < x (ix3 b t k'))) c)) := by
  have hd : 2 < S4x4096x1024.rank := by decide
  have e : ∀ k : Fin 1024, (ix3 b t c : S4x4096x1024.Idx).along (⟨2, hd⟩ : Fin S4x4096x1024.rank) k = ix3 b t k := by
    intro k
    funext a
    fin_cases a <;> rfl
  have hb : (fun k k' : Fin 1024 => comparator_f32_d2 (F := Ideal) (x ((ix3 b t c : S4x4096x1024.Idx).along (⟨2, hd⟩ : Fin S4x4096x1024.rank) k))
        (x ((ix3 b t c : S4x4096x1024.Idx).along (⟨2, hd⟩ : Fin S4x4096x1024.rank) k')) == 1#1)
      = fun k k' => decide ((x (ix3 b t k) : EReal) < x (ix3 b t k')) := by
    funext k k'
    rw [e k, e k', comparator_eq]
  have step : Host.sort S4x4096x1024 2 (comparator_f32_d2 (F := Ideal)) x (ix3 b t c)
      = x ((ix3 b t c : S4x4096x1024.Idx).along (⟨2, hd⟩ : Fin S4x4096x1024.rank)
          (sortedFrom (fun k k' : Fin 1024 => comparator_f32_d2 (F := Ideal) (x ((ix3 b t c : S4x4096x1024.Idx).along (⟨2, hd⟩ : Fin S4x4096x1024.rank) k))
            (x ((ix3 b t c : S4x4096x1024.Idx).along (⟨2, hd⟩ : Fin S4x4096x1024.rank) k')) == 1#1) c)) := by
    unfold Host.sort
    rw [dif_pos hd]
    rfl
  exact step.trans ((congrArg x (e _)).trans (congrArg (fun B : Fin 1024 → Fin 1024 → Bool => x (ix3 b t (sortedFrom B c))) hb))

/-- The positions of a stable sort are a rearrangement. -/
theorem sortedFrom_perm {n : Nat} (before : Fin n → Fin n → Bool) :
    ∃ σ : Equiv.Perm (Fin n), ∀ c, σ c = sortedFrom before c :=
  ⟨Equiv.ofBijective (sortedFrom before) ⟨sortedFrom_injective before, sortedFrom_surjective before⟩, fun _ => rfl⟩

/-- Each line of the host's sort is monotone and a rearrangement of the operand's line. -/
theorem hostSort_line (x : FVec Ideal S4x4096x1024 .f32) (b : Fin 4) (t : Fin 4096) :
    Monotone (fun c : Fin 1024 => (Host.sort S4x4096x1024 2 (comparator_f32_d2 (F := Ideal)) x (ix3 b t c) : EReal))
      ∧ ∃ σ : Equiv.Perm (Fin 1024), (fun c : Fin 1024 => (Host.sort S4x4096x1024 2 (comparator_f32_d2 (F := Ideal)) x (ix3 b t c) : EReal))
          = (fun c => (x (ix3 b t c) : EReal)) ∘ σ := by
  constructor
  · intro i j hij
    simp only [hostSort_apply]
    rcases hij.lt_or_eq with h | h
    · have := sortedFrom_noInversion (fun k k' : Fin 1024 => decide ((x (ix3 b t k) : EReal) < x (ix3 b t k')))
        (fun k k' : Fin 1024 => decide ((x (ix3 b t k) : EReal) < x (ix3 b t k')))
        (fun a c h => decide_eq_false (not_lt.mpr (of_decide_eq_true h).le)) (fun _ _ h => h)
        (fun a c d h1 h2 => decide_eq_false (not_lt.mpr ((not_lt.mp (of_decide_eq_false h2)).trans (not_lt.mp (of_decide_eq_false h1)))))
        i j h
      exact not_lt.mp (of_decide_eq_false this)
    · rw [h]
  · obtain ⟨σ, hσ⟩ := sortedFrom_perm fun k k' : Fin 1024 => decide ((x (ix3 b t k) : EReal) < x (ix3 b t k'))
    refine ⟨σ, funext fun c => ?_⟩
    rw [Function.comp_apply, hσ]
    exact hostSort_apply x b t c

/-- Two monotone rearrangements of one line are equal. -/
theorem eq_of_sorted {v f g : Fin 1024 → EReal} (hf : Monotone f) (hg : Monotone g)
    (ef : ∃ σ : Equiv.Perm (Fin 1024), f = v ∘ σ) (eg : ∃ σ : Equiv.Perm (Fin 1024), g = v ∘ σ) : f = g := by
  obtain ⟨σ, rfl⟩ := ef
  obtain ⟨τ, rfl⟩ := eg
  have hp : (List.ofFn (v ∘ σ)).Perm (List.ofFn (v ∘ τ)) :=
    (Equiv.Perm.ofFn_comp_perm σ v).trans (Equiv.Perm.ofFn_comp_perm τ v).symm
  have hs : ∀ h : Fin 1024 → EReal, Monotone h → (List.ofFn h).Pairwise (· ≤ ·) := fun h hh => by
    rw [List.pairwise_ofFn]
    exact fun i j hij => hh (le_of_lt hij)
  exact List.ofFn_injective (List.Perm.eq_of_pairwise (fun _ _ _ _ h1 h2 => le_antisymm h1 h2) (hs _ hf) (hs _ hg) hp)

end SortK

end

end
-- ==== Proof.Value.lean ====
/-
  The value of the kernel's program over the extended reals: the result array is the host's sort of the argument along its
  last axis. A grid point's block is 1024 consecutive rows of the argument, the body sorts each row, the blocks tile the
  array, and two monotone rearrangements of one row are equal.
-/
module

public import proofs.«01_k».proof.Proof.RunKernelIdeal
public import proofs.«01_k».proof.Proof.Block
public import proofs.«01_k».proof.Proof.HostSort
public import Idealize.ShloMosaic.Lib.Pipeline.ValueKit

@[expose] public section

set_option maxRecDepth 16384

noncomputable section

namespace Cert.KernelIdeal.Value

open Cert.KernelIdeal Cert.KernelIdeal.Gen Cert.KernelIdeal.Run
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The reference's term. -/
abbrev sorted (X : FVec Ideal S4x4096x1024 .f32) : FVec Ideal S4x4096x1024 .f32 :=
  Host.sort Cert.ReferenceIdeal.S4x4096x1024 2 (Cert.ReferenceIdeal.comparator_f32_d2 (F := Ideal)) X

/-- Both windows' block index at a point is the point's number. -/
theorem idx : ∀ t : Fin cfg0.N, win0_0.index t = ![t.val, 0] ∧ win0_1.index t = ![t.val, 0] :=
  (by decide +kernel : ∀ t : Fin grid0.N, _)

/-- The batch of a row of the argument seen as 16384 rows. -/
def batch (R : Nat) (h : R < 16384) : Fin 4 := ⟨R / 4096, by omega⟩
/-- The row's place in its batch. -/
def inBatch (R : Nat) : Fin 4096 := ⟨R % 4096, by omega⟩

/-- The rows of a point's block are rows of the array. -/
theorem row_lt (t : Fin cfg0.N) (r : Fin 1024) : t.val * 1024 + r.val < 16384 := by
  have h : t.val < 16 := t.isLt
  have := r.isLt
  omega

/-- An array cast to 16384 rows, at a row. -/
theorem cast_rows (X : FVec Ideal S4x4096x1024 .f32) (h : Shape.ShapeCasts S4x4096x1024 S16384x1024) (R : Fin 16384) (k : Fin 1024) :
    shapeCast S16384x1024 X h (ix2 R k) = X (ix3 (batch R.val R.isLt) (inBatch R.val) k) := by
  pointwise
  blk_ext [batch, inBatch]

/-- The input's block at a point, read at a row of the block. -/
theorem iblk_row (c : Dev nD) (t : Fin cfg0.N) (r k : Fin 1024) :
    (iblk m c 0 t : FVec Ideal S1024x1024 .f32) (ix2 r k)
      = (m ((c : Thread nD τ).loc main_arg0) : FVec Ideal S4x4096x1024 .f32) (ix3 (batch _ (row_lt t r)) (inBatch (t.val * 1024 + r.val)) k) := by
  refine Eq.trans ?_ (cast_rows (m ((c : Thread nD τ).loc main_arg0)) shapeCasts_S4x4096x1024_S16384x1024 ⟨_, row_lt t r⟩ k)
  blk_simp [iblk]
  entry_read
  blk_ext [idx t]

/-- What the body leaves at a row of the block is the reference's row. -/
theorem point_row (c : Dev nD) (t : Fin cfg0.N) (r k : Fin 1024) :
    SortK.blockSort (iblk m c 0 t : FVec Ideal S1024x1024 .f32) (ix2 r k)
      = sorted (m ((c : Thread nD τ).loc main_arg0)) (ix3 (batch _ (row_lt t r)) (inBatch (t.val * 1024 + r.val)) k) := by
  have h1 := SortK.blockSort_row (iblk m c 0 t : FVec Ideal S1024x1024 .f32) r
  have h2 := SortK.hostSort_line (m ((c : Thread nD τ).loc main_arg0)) (batch _ (row_lt t r)) (inBatch (t.val * 1024 + r.val))
  rw [show (fun c' : Fin 1024 => (iblk m c 0 t : FVec Ideal S1024x1024 .f32) (ix2 r c')) = _ from funext fun c' => iblk_row m c t r c'] at h1
  exact congrFun (SortK.eq_of_sorted h1.1 h2.1 h1.2 h2.2) k

/-- The output array after the run: the reference's term as 16384 rows. -/
theorem final (c : Dev nD) : (dats m 0 c).arrAt 1 (cfgs 0).N
    = shapeCast S16384x1024 (sorted (m ((c : Thread nD τ).loc main_arg0))) shapeCasts_S4x4096x1024_S16384x1024 := by
  refine (dats m 0 c).arrAt_eq_of_covers 1 _ (by decide +kernel) fun t _ y => ?_
  blk_simp
  rw [after0_1]
  unfold outAt
  obtain ⟨r, k, rfl⟩ : ∃ r k : Fin 1024, y = ix2 r k := ⟨y 0, y 1, by blk_ext⟩
  refine (point_row m c t r k).trans ((cast_rows _ shapeCasts_S4x4096x1024_S16384x1024 ⟨_, row_lt t r⟩ k).symm.trans ?_)
  blk_ext [idx t]

/-- The windows' arrays are different buffers. -/
theorem arr_inj : Function.Injective (Pipeline.arrRef (cfgs 0).spec) :=
  (by decide : Function.Injective (Pipeline.arrRef spec0))

/-- The result after the run is the reference's term. -/
theorem result (c : Dev nD) : Pipeline.afterTail₀ cfgs (dats m) 0 (V0 m) [hostOps1] c main_v2
    = sorted (m ((c : Thread nD τ).loc main_arg0)) := by
  unfold Pipeline.afterTail₀
  simp only [List.flatten_cons, List.flatten_nil, List.append_nil]
  after_results
  have h : Pipeline.withArrays (cfgs 0).spec c (V0 m c) (fun w => (dats m 0 c).arrAt w (cfgs 0).N) (Proc.devRef .tc main_v1)
      = shapeCast S16384x1024 (sorted (m ((c : Thread nD τ).loc main_arg0))) shapeCasts_S4x4096x1024_S16384x1024 :=
    (Pipeline.withArrays_arr (cfgs 0).spec arr_inj c (V0 m c) (fun w => (dats m 0 c).arrAt w (cfgs 0).N) 1).trans (final m c)
  rw [h]
  exact shapeCast_shapeCast _ _ _

/-- The run with the result and the argument named. -/
theorem run : θ_run (defs (F := Ideal)) (onTc (τ := τ) (main (F := Ideal))) ⟨m, fun _ => 0, ρ⟩ fun r => ∀ c : Dev nD,
      r.2.mem ((c : Thread nD τ).loc main_v2) = sorted (m ((c : Thread nD τ).loc main_arg0))
      ∧ r.2.mem ((c : Thread nD τ).loc main_arg0) = m ((c : Thread nD τ).loc main_arg0) :=
  (θ_run defs _ _).mono (fun r h c =>
      ⟨((h c).2 main_v2 (Pipeline.mem_restRefs_of main_v2 (by decide) (by decide))).trans (result m c),
        ((h c).2 main_arg0 (Pipeline.mem_restRefs_of main_arg0 (by decide) (by decide))).trans (W_main_arg0 m (dats m) c)⟩)
    (run_main m ρ)

end Cert.KernelIdeal.Value

end

end
-- ==== Proof.lean ====
/-
  The claims: the two frames of the kernel's program, the reference's, the idealization, and that the kernel's result is the
  sorted array.
-/
module

public import proofs.«01_k».proof.Defs
public import proofs.«01_k».proof.Proof.RunKernel
public import proofs.«01_k».proof.Proof.RunKernelIdeal
public import proofs.«01_k».proof.Proof.Value
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The reference's frame: it launches nothing and its one line leaves the argument as it was. -/
theorem reference_frame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From equal arguments the kernel and the reference end with equal results. -/
theorem results_agree : Cert.algebraic_KernelIdeal_ReferenceIdeal (hKernelIdeal := Cert.KernelIdeal.Gen.facts)
    (hReferenceIdeal := Cert.ReferenceIdeal.Gen.facts) := fun m g m' g' _ hagree =>
  ⟨fun c => Cert.KernelIdeal.Value.sorted (m ((c.tc : Thread Cert.KernelIdeal.nD Cert.KernelIdeal.τ).loc Cert.KernelIdeal.main_arg0)),
    Cert.KernelIdeal.Value.run m g,
    (θ_run Cert.ReferenceIdeal.defs _ _).mono
      (fun r h c => ⟨(h c).1.trans (congrArg Cert.KernelIdeal.Value.sorted (hagree c)), (h c).2⟩)
      (Cert.ReferenceIdeal.Value.run (F := Ideal) m' g')⟩

/-- All five claims. -/
theorem claim : Cert.Claim :=
  ⟨Cert.Kernel.Gen.facts, Cert.KernelIdeal.Gen.facts, Cert.ReferenceIdeal.Gen.facts,
    fun m ρ _ => Cert.Kernel.Run.frame m ρ, fun m ρ _ => Cert.KernelIdeal.Run.frame m ρ, reference_frame, trivial, results_agree⟩

end Cert.Proof

end
